-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  IdealRules.named_const.Statement Cert.KernelIdeal.κ "exp2_scale" .f32 0x3DD53B95#32 (((Real.sqrt 192)⁻¹ * (Real.log 2)⁻¹ : ℝ) : EReal)

def preserves_Reference_ReferenceIdeal : Prop :=
  IdealRules.named_const.Statement Cert.ReferenceIdeal.κ "sm_scale" .f32 0x3D93CD3A#32 (((Real.sqrt 192)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4x1x65536 : Shape := ⟨3, ![4, 1, 65536]⟩
abbrev S4x1x128x64 : Shape := ⟨4, ![4, 1, 128, 64]⟩
abbrev S4x65536x512 : Shape := ⟨3, ![4, 65536, 512]⟩
abbrev S4x65536 : Shape := ⟨2, ![4, 65536]⟩
abbrev S4x65536x64 : Shape := ⟨3, ![4, 65536, 64]⟩
abbrev S4x128x512 : Shape := ⟨3, ![4, 128, 512]⟩
abbrev S4x128x64 : Shape := ⟨3, ![4, 128, 64]⟩
abbrev S1x128x512 : Shape := ⟨3, ![1, 128, 512]⟩
abbrev S1x128x64 : Shape := ⟨3, ![1, 128, 64]⟩
abbrev S1x1024x512 : Shape := ⟨3, ![1, 1024, 512]⟩
abbrev S1x1x1024 : Shape := ⟨3, ![1, 1, 1024]⟩
abbrev S1x1024x64 : Shape := ⟨3, ![1, 1024, 64]⟩
abbrev S128x1 : Shape := ⟨2, ![128, 1]⟩
abbrev S128x512 : Shape := ⟨2, ![128, 512]⟩
abbrev S1024x512 : Shape := ⟨2, ![1024, 512]⟩
abbrev S1x1024 : Shape := ⟨2, ![1, 1024]⟩
abbrev S128x1024 : Shape := ⟨2, ![128, 1024]⟩
abbrev S128x64 : Shape := ⟨2, ![128, 64]⟩
abbrev S1024x64 : Shape := ⟨2, ![1024, 64]⟩
abbrev S128 : Shape := ⟨1, ![128]⟩

abbrev nBuf : Space → Nat
  | .hbm => 9
  | .vmem => 15
  | .smem => 0
  | _ => 0

abbrev bufTy : (tb : Table) → Fin (tcTables nBuf tb) → BufTy
  | .hbm, ⟨0, _⟩ => ⟨S4x1x65536, .bf16⟩
  | .hbm, ⟨1, _⟩ => ⟨S4x1x128x64, .bf16⟩
  | .hbm, ⟨2, _⟩ => ⟨S4x65536x512, .fp8e4m3⟩
  | .hbm, ⟨3, _⟩ => ⟨S4x65536, .f32⟩
  | .hbm, ⟨4, _⟩ => ⟨S4x65536x64, .bf16⟩
  | .hbm, ⟨5, _⟩ => ⟨S4x128x512, .bf16⟩
  | .hbm, ⟨6, _⟩ => ⟨S4x128x64, .bf16⟩
  | .hbm, ⟨7, _⟩ => ⟨S4x1x65536, .f32⟩
  | .hbm, ⟨8, _⟩ => ⟨S4x128x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x64, .bf16⟩
  | .local _ .vmem, ⟨3, _⟩ => ⟨S1x128x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x1x1024, .f32⟩
  | .local _ .vmem, ⟨7, _⟩ => ⟨S1x1x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x128x512, .bf16⟩
  | .local _ .vmem, ⟨11, _⟩ => ⟨S1x128x512, .bf16⟩
  | .local _ .vmem, ⟨12, _⟩ => ⟨S128x1, .f32⟩
  | .local _ .vmem, ⟨13, _⟩ => ⟨S128x1, .f32⟩
  | .local _ .vmem, ⟨14, _⟩ => ⟨S128x512, .f32⟩
  | _, _ => ⟨S4x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 64], ![false, false]⟩

def k0_cond2 (i : grid0.Coords) : BitVec 1 :=
  let arg1 : BitVec 32 := BitVec.ofNat 32 (i 1).val
  let c63_i32 : BitVec 32 := 63#32
  let v51 : BitVec 1 := Scalar.cmpi .eq arg1 c63_i32
  let v52 : BitVec 32 := Scalar.extui v51
  let c0_i32_32 : BitVec 32 := 0#32
  let v53 : BitVec 1 := Scalar.cmpi .ne v52 c0_i32_32
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "exp2_scale" => some (((Real.sqrt 192)⁻¹ * (Real.log 2)⁻¹ : ℝ) : EReal)
  | _ => none
-- ==== ReferenceIdeal.lean ====
variable {F : FTy → Type} [FloatOps F] [Named F]
def κ : String → Option EReal := fun
  | "sm_scale" => some (((Real.sqrt 192)⁻¹ : ℝ) : EReal)
  | _ => none
-- ==== Reference.lean ====
abbrev S4x1x65536 : Shape := ⟨3, ![4, 1, 65536]⟩
abbrev S4x1x128x64 : Shape := ⟨4, ![4, 1, 128, 64]⟩
abbrev S4x65536x512 : Shape := ⟨3, ![4, 65536, 512]⟩
abbrev S4x65536 : Shape := ⟨2, ![4, 65536]⟩
abbrev S4x65536x64 : Shape := ⟨3, ![4, 65536, 64]⟩
abbrev S4x128x512 : Shape := ⟨3, ![4, 128, 512]⟩
abbrev S4x128x64 : Shape := ⟨3, ![4, 128, 64]⟩
abbrev S4x128x65536 : Shape := ⟨3, ![4, 128, 65536]⟩
abbrev S4x128 : Shape := ⟨2, ![4, 128]⟩
abbrev S4x128x1 : Shape := ⟨3, ![4, 128, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x1x65536, .bf16⟩
  | .hbm, ⟨1, _⟩ => ⟨S4x1x128x64, .bf16⟩
  | .hbm, ⟨2, _⟩ => ⟨S4x65536x512, .fp8e4m3⟩
  | .hbm, ⟨3, _⟩ => ⟨S4x65536, .f32⟩
  | .hbm, ⟨4, _⟩ => ⟨S4x65536x64, .bf16⟩
  | .hbm, ⟨5, _⟩ => ⟨S4x128x512, .bf16⟩
  | .hbm, ⟨6, _⟩ => ⟨S4x128x64, .bf16⟩
  | .hbm, ⟨7, _⟩ => ⟨S4x128x512, .bf16⟩
  | .local _ .vmem, ⟨0, _⟩ => ⟨S4x128x512, .bf16⟩
  | .local _ .vmem, ⟨1, _⟩ => ⟨S4x128x64, .bf16⟩
  | .local _ .vmem, ⟨2, _⟩ => ⟨S4x65536x512, .fp8e4m3⟩
  | .local _ .vmem, ⟨3, _⟩ => ⟨S4x65536, .f32⟩
  | .local _ .vmem, ⟨4, _⟩ => ⟨S4x65536x64, .bf16⟩
  | .local _ .vmem, ⟨5, _⟩ => ⟨S4x128x512, .bf16⟩
  | _, _ => ⟨S4x1x65536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x65536x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x65536x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point's body leaves behind, as terms over what it read.

   The body's runs (Gen/KernelIdeal/Frame.lean) are recorded as lists of stored pieces. Here each list is read back:
   the running maximum, the running weight sum and the running weighted values after one block, from the block's
   inputs and the values carried in; and, at a batch's last block, the output block. At a batch's first block the
   values carried in are the ones the body has just stored: minus infinity, zero and zero. -/
module

public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F] [Named F]

/-- The running maximum after a block, from the block's inputs and the maximum before. -/
def stepM (x0 : Vec F S1x128x512 .bf16) (x1 : Vec F S1x128x64 .bf16) (x2 : Vec F S1x1024x512 .fp8e4m3) (x3 : Vec F S1x1x1024 .f32) (x4 : Vec F S1x1024x64 .bf16) (y0 : Vec F S128x1 .f32) : Vec F S128x1 .f32 :=
  k0_pay2 (k0_pay11 x2 x3 x0 x1 x4 y0)

/-- The running sum of weights after a block. -/
def stepL (x0 : Vec F S1x128x512 .bf16) (x1 : Vec F S1x128x64 .bf16) (x2 : Vec F S1x1024x512 .fp8e4m3) (x3 : Vec F S1x1x1024 .f32) (x4 : Vec F S1x1024x64 .bf16) (y0 y1 : Vec F S128x1 .f32) : Vec F S128x1 .f32 :=
  k0_pay1 (k0_pay13 x2 x3 x0 x1 x4 y0) (k0_pay14 x2 x3 x0 x1 x4 y0 y1)

/-- The running weighted values after a block. -/
def stepAcc (x0 : Vec F S1x128x512 .bf16) (x1 : Vec F S1x128x64 .bf16) (x2 : Vec F S1x1024x512 .fp8e4m3) (x3 : Vec F S1x1x1024 .f32) (x4 : Vec F S1x1024x64 .bf16) (y0 : Vec F S128x1 .f32) (y2 : Vec F S128x512 .f32) : Vec F S128x512 .f32 :=
  k0_pay3 (k0_pay8 x2) (k0_pay9 x3) (k0_pay12 x2 x3 x0 x1 x4 y0) (k0_pay13 x2 x3 x0 x1 x4 y0) y2

variable (c : Dev nD) (i : grid0.Coords) (a2 : Memref sig .tc .vmem S1x128x512 .bf16) (h2 : a2.IsWhole) (a3 : Memref sig .tc .vmem S1x128x64 .bf16) (h3 : a3.IsWhole) (a4 : Memref sig .tc .vmem S1x1024x512 .fp8e4m3) (h4 : a4.IsWhole) (a5 : Memref sig .tc .vmem S1x1x1024 .f32) (h5 : a5.IsWhole) (a6 : Memref sig .tc .vmem S1x1024x64 .bf16) (h6 : a6.IsWhole) (a7 : Memref sig .tc .vmem S1x128x512 .bf16) (h7 : a7.IsWhole) (a8 : Memref sig .tc .vmem S128x1 .f32) (h8 : a8.IsWhole) (a9 : Memref sig .tc .vmem S128x1 .f32) (h9 : a9.IsWhole) (a10 : Memref sig .tc .vmem S128x512 .f32) (h10 : a10.IsWhole)
  (x0 : Vec F S1x128x512 .bf16) (x1 : Vec F S1x128x64 .bf16) (x2 : Vec F S1x1024x512 .fp8e4m3) (x3 : Vec F S1x1x1024 .f32) (x4 : Vec F S1x1024x64 .bf16) (y0 : Vec F S128x1 .f32) (y1 : Vec F S128x1 .f32) (y2 : Vec F S128x512 .f32)

/-- At a batch's first block, what the body leaves as the running maximum. -/
theorem m_A (hc0 : cond0_0 i) (hc1 : ¬cond0_1 i) :
    sout0_A_0 c i a2 h2 a3 h3 a4 h4 a5 h5 a6 h6 a7 h7 a8 h8 a9 h9 a10 h10 hc0 hc1 x0 x1 x2 x3 x4
      = stepM x0 x1 x2 x3 x4 k0_pay5 := by
  frame_out
  rfl

/-- At a batch's first block, what the body leaves as the running sum of weights. -/
theorem l_A (hc0 : cond0_0 i) (hc1 : ¬cond0_1 i) :
    sout0_A_1 c i a2 h2 a3 h3 a4 h4 a5 h5 a6 h6 a7 h7 a8 h8 a9 h9 a10 h10 hc0 hc1 x0 x1 x2 x3 x4
      = stepL x0 x1 x2 x3 x4 k0_pay5 k0_pay6 := by
  frame_out
  rfl

/-- At a batch's first block, what the body leaves as the running weighted values. -/
theorem acc_A (hc0 : cond0_0 i) (hc1 : ¬cond0_1 i) :
    sout0_A_2 c i a2 h2 a3 h3 a4 h4 a5 h5 a6 h6 a7 h7 a8 h8 a9 h9 a10 h10 hc0 hc1 x0 x1 x2 x3 x4
      = stepAcc x0 x1 x2 x3 x4 k0_pay5 k0_pay7 := by
  frame_out
  rfl

/-- At a block in a batch's middle, what the body leaves as the running maximum. -/
theorem m_B (hc0 : ¬cond0_0 i) (hc1 : ¬cond0_1 i) :
    sout0_B_0 c i a2 h2 a3 h3 a4 h4 a5 h5 a6 h6 a7 h7 a8 h8 a9 h9 a10 h10 hc0 hc1 x0 x1 x2 x3 x4 y0 y1 y2
      = stepM x0 x1 x2 x3 x4 y0 := by
  frame_out
  rfl

/-- At a block in a batch's middle, what the body leaves as the running sum of weights. -/
theorem l_B (hc0 : ¬cond0_0 i) (hc1 : ¬cond0_1 i) :
    sout0_B_1 c i a2 h2 a3 h3 a4 h4 a5 h5 a6 h6 a7 h7 a8 h8 a9 h9 a10 h10 hc0 hc1 x0 x1 x2 x3 x4 y0 y1 y2
      = stepL x0 x1 x2 x3 x4 y0 y1 := by
  frame_out
  rfl

/-- At a block in a batch's middle, what the body leaves as the running weighted values. -/
theorem acc_B (hc0 : ¬cond0_0 i) (hc1 : ¬cond0_1 i) :
    sout0_B_2 c i a2 h2 a3 h3 a4 h4 a5 h5 a6 h6 a7 h7 a8 h8 a9 h9 a10 h10 hc0 hc1 x0 x1 x2 x3 x4 y0 y1 y2
      = stepAcc x0 x1 x2 x3 x4 y0 y2 := by
  frame_out
  rfl

/-- At a batch's last block, what the body leaves as the running maximum. -/
theorem m_C (hc0 : ¬cond0_0 i) (hc1 : cond0_1 i) :
    sout0_C_0 c i a2 h2 a3 h3 a4 h4 a5 h5 a6 h6 a7 h7 a8 h8 a9 h9 a10 h10 hc0 hc1 x0 x1 x2 x3 x4 y0 y1 y2
      = stepM x0 x1 x2 x3 x4 y0 := by
  frame_out
  rfl

/-- At a batch's last block, what the body leaves as the running sum of weights. -/
theorem l_C (hc0 : ¬cond0_0 i) (hc1 : cond0_1 i) :
    sout0_C_1 c i a2 h2 a3 h3 a4 h4 a5 h5 a6 h6 a7 h7 a8 h8 a9 h9 a10 h10 hc0 hc1 x0 x1 x2 x3 x4 y0 y1 y2
      = stepL x0 x1 x2 x3 x4 y0 y1 := by
  frame_out
  rfl

/-- At a batch's last block, what the body leaves as the running weighted values. -/
theorem acc_C (hc0 : ¬cond0_0 i) (hc1 : cond0_1 i) :
    sout0_C_2 c i a2 h2 a3 h3 a4 h4 a5 h5 a6 h6 a7 h7 a8 h8 a9 h9 a10 h10 hc0 hc1 x0 x1 x2 x3 x4 y0 y1 y2
      = stepAcc x0 x1 x2 x3 x4 y0 y2 := by
  frame_out
  rfl

/-- At a batch's last block, what the body leaves in the output block: the quotient of what it has just left. -/
theorem out_C (hc0 : ¬cond0_0 i) (hc1 : cond0_1 i) :
    out0_C_5 c i a2 h2 a3 h3 a4 h4 a5 h5 a6 h6 a7 h7 a8 h8 a9 h9 a10 h10 hc0 hc1 x0 x1 x2 x3 x4 y0 y1 y2
      = k0_pay4 (stepAcc x0 x1 x2 x3 x4 y0 y2) (stepL x0 x1 x2 x3 x4 y0 y1) := by
  frame_out
  rfl

end Cert.KernelIdeal.Block

end
-- ==== Proof.SoftmaxMath.lean ====
/- The mathematics of a softmax taken block by block, over the extended reals.

   A softmax-weighted sum over a set of tokens can be built up one block of tokens at a time: keep the maximum score so
   far and the sums weighted against it, and when the maximum rises rescale the sums by `2 ^ (old - new)`. This file
   proves that step with no condition on the scores or the values, infinite ones included, and that weights taken with
   base two of scores times `1 / log 2` are the weights taken with base `e`. Nothing here mentions a program. -/
module

public import Idealize.ShloMosaic.PureOps.Ideal
public import Mathlib.Data.EReal.Operations
public import Mathlib.Analysis.SpecialFunctions.Pow.Real

@[expose] public section

noncomputable section

namespace Cert.SoftmaxMath

open Idealize.ShloMosaic

/-- The pattern of minus infinity is `⊥`. -/
theorem ofBits_neg_inf : Ideal.ofBits .f32 0xFF800000#32 = ⊥ := by
  unfold Ideal.ofBits Ideal.ieee
  simp

/-- Two to a power is never negative. -/
theorem exp2_nonneg (x : EReal) : 0 ≤ Ideal.exp2 x := by
  induction x with
  | bot => simp
  | top => simp
  | coe r =>
    rw [Ideal.exp2_coe]
    exact_mod_cast Real.rpow_nonneg (by norm_num : (0 : ℝ) ≤ 2) r

/-- The power of a difference `a - b` with `a ≤ b` is finite. -/
theorem exp2_sub_ne_top {a b : EReal} (h : a ≤ b) : Ideal.exp2 (a - b) ≠ ⊤ := by
  induction b with
  | bot => rw [le_bot_iff.mp h]; simp
  | top => simp
  | coe s =>
    induction a with
    | bot => simp
    | top => exact absurd h (by simp)
    | coe r => rw [← EReal.coe_sub, Ideal.exp2_coe]; exact EReal.coe_ne_top _

/-- Rescaling a weight from the maximum `a` to the larger maximum `b`, at every extended real. -/
theorem rescale {u a b : EReal} (hu : u ≤ a) (hab : a ≤ b) :
    Ideal.exp2 (u - a) * Ideal.exp2 (a - b) = Ideal.exp2 (u - b) := by
  induction u with
  | bot => simp
  | top =>
    obtain rfl := top_le_iff.mp hu
    obtain rfl := top_le_iff.mp hab
    simp
  | coe r =>
    induction b with
    | bot => rw [le_bot_iff.mp hab] at hu; exact absurd hu (by simp)
    | top => simp
    | coe t =>
      induction a with
      | bot => exact absurd hu (by simp)
      | top => exact absurd hab (by simp)
      | coe s =>
        rw [← EReal.coe_sub, ← EReal.coe_sub, ← EReal.coe_sub, Ideal.exp2_coe, Ideal.exp2_coe, Ideal.exp2_coe,
          ← EReal.coe_mul]
        congr 1
        show (2 : ℝ) ^ (r - s) * (2 : ℝ) ^ (s - t) = (2 : ℝ) ^ (r - t)
        rw [← Real.rpow_add (by norm_num : (0 : ℝ) < 2)]
        congr 1
        ring

/-- A finite sum times a finite factor that is not negative is the sum of the products, whatever the terms are. -/
theorem sum_mul {ι : Type*} (S : Finset ι) (f : ι → EReal) {y : EReal} (h0 : 0 ≤ y) (ht : y ≠ ⊤) :
    (∑ t ∈ S, f t) * y = ∑ t ∈ S, f t * y := by
  classical
  induction S using Finset.induction_on with
  | empty => simp
  | insert a S ha ih =>
    rw [Finset.sum_insert ha, Finset.sum_insert ha, EReal.right_distrib_of_nonneg_of_ne_top h0 ht, ih]

variable {ι : Type*} [DecidableEq ι]

/-- The sum over the tokens `S` of `v`, each weighted by two to its score less the largest score in `S`. -/
def weighted (u v : ι → EReal) (S : Finset ι) : EReal :=
  ∑ t ∈ S, Ideal.exp2 (u t - S.sup u) * v t

omit [DecidableEq ι] in
/-- Over no token the weighted sum is zero. -/
theorem weighted_empty (u v : ι → EReal) : weighted u v ∅ = 0 := by simp [weighted]

/-- THE STEP: the weighted sum over `S` and a further block `B` is the one over `S`, rescaled to the new maximum, plus
    the block's own terms. -/
theorem weighted_union (u v : ι → EReal) {S B : Finset ι} (h : Disjoint S B) :
    weighted u v (S ∪ B)
      = weighted u v S * Ideal.exp2 (S.sup u - max (S.sup u) (B.sup u))
        + ∑ t ∈ B, Ideal.exp2 (u t - max (S.sup u) (B.sup u)) * v t := by
  unfold weighted
  rw [Finset.sum_union h, Finset.sup_union, sum_mul S _ (exp2_nonneg _) (exp2_sub_ne_top le_sup_left)]
  congr 1
  refine Finset.sum_congr rfl fun t ht => ?_
  rw [mul_right_comm, rescale (Finset.le_sup ht) le_sup_left]

/-! ## From base two to base `e` -/

/-- Two to the power `x / log 2` is `e` to the power `x`. -/
theorem exp2_mul_inv_log (x : EReal) : Ideal.exp2 (x * (((Real.log 2)⁻¹ : ℝ) : EReal)) = Ideal.exp x := by
  have hL : (0 : ℝ) < (Real.log 2)⁻¹ := inv_pos.mpr (Real.log_pos (by norm_num))
  induction x with
  | bot => rw [EReal.bot_mul_coe_of_pos hL]; simp
  | top => rw [EReal.top_mul_coe_of_pos hL]; simp
  | coe r =>
    rw [← EReal.coe_mul, Ideal.exp2_coe, Ideal.exp_coe]
    congr 1
    show (2 : ℝ) ^ (r * (Real.log 2)⁻¹) = Real.exp r
    rw [Real.rpow_def_of_pos (by norm_num : (0 : ℝ) < 2)]
    congr 1
    have : Real.log 2 ≠ 0 := (Real.log_pos (by norm_num)).ne'
    field_simp

omit [DecidableEq ι] in
/-- The largest of scores that are all multiplied by one positive real is the largest score, multiplied. -/
theorem sup_mul (S : Finset ι) (s : ι → EReal) {r : ℝ} (hr : 0 < r) :
    (S.sup fun t => s t * (r : EReal)) = S.sup s * (r : EReal) := by
  have hm : Monotone fun x : EReal => x * (r : EReal) := fun x y h =>
    mul_le_mul_of_nonneg_right h (by exact_mod_cast hr.le)
  exact (Finset.comp_sup_eq_sup_comp_of_is_total (fun x : EReal => x * (r : EReal)) hm
    (EReal.bot_mul_coe_of_pos hr)).symm

omit [DecidableEq ι] in
/-- The weighted sum of scores times `1 / log 2` is the sum weighted by `e` to the score less the largest score. -/
theorem weighted_eq_exp (s v : ι → EReal) (S : Finset ι) :
    weighted (fun t => s t * (((Real.log 2)⁻¹ : ℝ) : EReal)) v S = ∑ t ∈ S, Ideal.exp (s t - S.sup s) * v t := by
  have hL : (0 : ℝ) < (Real.log 2)⁻¹ := inv_pos.mpr (Real.log_pos (by norm_num))
  unfold weighted
  refine Finset.sum_congr rfl fun t _ => ?_
  rw [sup_mul S s hL, ← exp2_mul_inv_log (s t - S.sup s), sub_eq_add_neg, sub_eq_add_neg,
    EReal.right_distrib_of_nonneg_of_ne_top (by exact_mod_cast hL.le) (EReal.coe_ne_top _), EReal.neg_mul]

/-! ## The tokens, block by block -/

/-- Token `j` of block `n`: there are 64 blocks of 1024 tokens. -/
def tok (n : Fin 64) (j : Fin 1024) : Fin 65536 := ⟨1024 * n.val + j.val, by omega⟩

/-- The tokens of block `n`. -/
def block (n : Fin 64) : Finset (Fin 65536) := Finset.univ.image (tok n)

/-- The tokens of the blocks before block `n`. -/
def before (n : ℕ) : Finset (Fin 65536) := Finset.univ.filter fun t => t.val < 1024 * n

/-- A block's tokens are distinct. -/
theorem tok_injective (n : Fin 64) : Function.Injective (tok n) := fun i j h => by
  have := congrArg Fin.val h
  simp only [tok] at this
  exact Fin.ext (by omega)

/-- A sum over a block, token by token. -/
theorem sum_block (n : Fin 64) (f : Fin 65536 → EReal) : ∑ t ∈ block n, f t = ∑ j, f (tok n j) := by
  unfold block
  rw [Finset.sum_image fun _ _ _ _ h => tok_injective n h]

/-- The largest over a block, token by token. -/
theorem sup_block (n : Fin 64) (f : Fin 65536 → EReal) : (block n).sup f = Finset.univ.sup fun j => f (tok n j) := by
  unfold block
  rw [Finset.sup_image]
  rfl

/-- No token lies before block 0. -/
theorem before_zero : before 0 = ∅ := by
  unfold before
  exact Finset.filter_eq_empty_iff.mpr fun t _ => by omega

/-- The tokens before block `n + 1` are those before block `n` and block `n`'s own. -/
theorem before_succ (n : Fin 64) : before (n.val + 1) = before n.val ∪ block n := by
  ext t
  simp only [before, block, Finset.mem_union, Finset.mem_filter, Finset.mem_univ, true_and, Finset.mem_image]
  constructor
  · intro h
    by_cases h' : t.val < 1024 * n.val
    · exact .inl h'
    · exact .inr ⟨⟨t.val - 1024 * n.val, by omega⟩, Fin.ext (by simp only [tok]; omega)⟩
  · rintro (h | ⟨j, rfl⟩)
    · omega
    · simp only [tok]; omega

/-- A block shares no token with the blocks before it. -/
theorem disjoint_before (n : Fin 64) : Disjoint (before n.val) (block n) := by
  rw [Finset.disjoint_left]
  intro t h h'
  simp only [before, block, Finset.mem_filter, Finset.mem_univ, true_and, Finset.mem_image] at h h'
  obtain ⟨j, rfl⟩ := h'
  simp only [tok] at h
  omega

/-- Every token lies before block 64. -/
theorem before_all : before 64 = Finset.univ := by
  unfold before
  exact Finset.filter_true_of_mem fun t _ => by omega

/-- The largest score before block `n + 1`, from the largest before block `n` and the block's own. -/
theorem sup_step (u : Fin 65536 → EReal) (n : Fin 64) :
    (before (n.val + 1)).sup u = max ((before n.val).sup u) (Finset.univ.sup fun j => u (tok n j)) := by
  rw [before_succ, Finset.sup_union, sup_block]

/-- The weighted sum before block `n + 1`, from the one before block `n` and the block's own terms. -/
theorem weighted_step (u v : Fin 65536 → EReal) (n : Fin 64) :
    weighted u v (before (n.val + 1))
      = weighted u v (before n.val) * Ideal.exp2 ((before n.val).sup u - (before (n.val + 1)).sup u)
        + ∑ j, Ideal.exp2 (u (tok n j) - (before (n.val + 1)).sup u) * v (tok n j) := by
  rw [sup_step, ← sup_block, before_succ, weighted_union u v (disjoint_before n),
    sum_block n fun t => Ideal.exp2 (u t - max ((before n.val).sup u) ((block n).sup u)) * v t]

end Cert.SoftmaxMath

end
-- ==== Proof.Payload.lean ====
/- What one block computes, element by element, over the extended reals.

   Each term of `Block.lean` is read at an index: the score of a head at a token, the running maximum, the running sum
   of weights and the running weighted values after the block, and the quotient the last block stores. -/
module

public import proofs.«01_k».proof.Proof.Block
public import proofs.«01_k».proof.Proof.SoftmaxMath
public import Idealize.ShloMosaic.Lib.Pointwise

@[expose] public section

set_option maxRecDepth 16384

noncomputable section

namespace Cert.KernelIdeal.Payload

open Cert.KernelIdeal Cert.KernelIdeal.Gen Cert.KernelIdeal.Block Cert.SoftmaxMath Idealize.ShloMosaic

/-- The constant the kernel multiplies its scores by: `1 / √192 · 1 / log 2`. -/
def scale2 : EReal := (((Real.sqrt 192)⁻¹ * (Real.log 2)⁻¹ : ℝ) : EReal)

variable (x0 : Vec Ideal S1x128x512 .bf16) (x1 : Vec Ideal S1x128x64 .bf16) (x2 : Vec Ideal S1x1024x512 .fp8e4m3)
  (x3 : Vec Ideal S1x1x1024 .f32) (x4 : Vec Ideal S1x1024x64 .bf16)

/-- The block's score of head `h` at its token `j`, in base two. -/
def score (h : Fin 128) (j : Fin 1024) : EReal :=
  ((∑ k : Fin 512, x0 (ix3 0 h k) * x2 (ix3 0 j k)) * x3 (ix3 0 0 j) + ∑ r : Fin 64, x1 (ix3 0 h r) * x4 (ix3 0 j r))
    * scale2

/-- The scores the body computes are `score`. -/
theorem score_apply (h : Fin 128) (j : Fin 1024) :
    k0_pay10 (F := Ideal) x2 x3 x0 x1 x4 (ix2 h j) = score x0 x1 x2 x3 x4 h j := by
  pointwise [k0_pay10, k0_pay8, k0_pay9]
  rfl

/-- The new maximum, before it is stored: the larger of the old one and the block's largest score. -/
theorem newM_apply (y0 : Vec Ideal S128x1 .f32) (h : Fin 128) :
    k0_pay11 (F := Ideal) x2 x3 x0 x1 x4 y0 (ix2 h 0)
      = max (y0 (ix2 h 0)) (Finset.univ.sup fun j => score x0 x1 x2 x3 x4 h j) := by
  simp only [← score_apply]
  pointwise [k0_pay11]
  rw [ofBits_neg_inf]
  rfl

/-- The running maximum after the block. -/
theorem stepM_apply (y0 : Vec Ideal S128x1 .f32) (h : Fin 128) :
    stepM x0 x1 x2 x3 x4 y0 (ix2 h 0)
      = max (y0 (ix2 h 0)) (Finset.univ.sup fun j => score x0 x1 x2 x3 x4 h j) := by
  rw [← newM_apply]
  pointwise [stepM, k0_pay2]

/-- The running sum of weights after the block: the old one rescaled, plus the block's weights. -/
theorem stepL_apply (y0 y1 : Vec Ideal S128x1 .f32) (h : Fin 128) :
    stepL x0 x1 x2 x3 x4 y0 y1 (ix2 h 0)
      = y1 (ix2 h 0) * Ideal.exp2 (y0 (ix2 h 0) - stepM x0 x1 x2 x3 x4 y0 (ix2 h 0))
        + ∑ j : Fin 1024, Ideal.exp2 (score x0 x1 x2 x3 x4 h j - stepM x0 x1 x2 x3 x4 y0 (ix2 h 0)) := by
  rw [stepM_apply, ← newM_apply]
  simp only [← score_apply]
  pointwise [stepL, k0_pay1, k0_pay14, k0_pay12, k0_pay13]
  rfl

/-- The running weighted values after the block: the old ones rescaled, plus the block's values times their weights. -/
theorem stepAcc_apply (y0 : Vec Ideal S128x1 .f32) (y2 : Vec Ideal S128x512 .f32) (h : Fin 128) (d : Fin 512) :
    stepAcc x0 x1 x2 x3 x4 y0 y2 (ix2 h d)
      = y2 (ix2 h d) * Ideal.exp2 (y0 (ix2 h 0) - stepM x0 x1 x2 x3 x4 y0 (ix2 h 0))
        + ∑ j : Fin 1024, Ideal.exp2 (score x0 x1 x2 x3 x4 h j - stepM x0 x1 x2 x3 x4 y0 (ix2 h 0))
            * (x3 (ix3 0 0 j) * x2 (ix3 0 j d)) := by
  rw [stepM_apply, ← newM_apply]
  simp only [← score_apply]
  pointwise [stepAcc, k0_pay3, k0_pay8, k0_pay9, k0_pay12, k0_pay13]
  refine congrArg₂ (· + ·) rfl (Finset.sum_congr rfl fun j _ => ?_)
  exact mul_assoc _ _ _

/-- The output block: weighted values over the sum of weights. -/
theorem quotient_apply (y2 : Vec Ideal S128x512 .f32) (y1 : Vec Ideal S128x1 .f32) (h : Fin 128) (d : Fin 512) :
    k0_pay4 (F := Ideal) y2 y1 (ix3 0 h d) = Ideal.div (y2 (ix2 h d)) (y1 (ix2 h 0)) := by
  pointwise [k0_pay4]

/-- A batch starts from a maximum of minus infinity, -/
theorem initM_apply (h : Fin 128) : k0_pay5 (F := Ideal) (ix2 h 0) = ⊥ := by
  rw [← ofBits_neg_inf]
  pointwise [k0_pay5]

/-- a sum of weights of zero -/
theorem initL_apply (h : Fin 128) : k0_pay6 (F := Ideal) (ix2 h 0) = 0 := by
  pointwise [k0_pay6]

/-- and weighted values of zero. -/
theorem initAcc_apply (h : Fin 128) (d : Fin 512) : k0_pay7 (F := Ideal) (ix2 h d) = 0 := by
  pointwise [k0_pay7]

end Cert.KernelIdeal.Payload

end
-- ==== Proof.Attention.lean ====
/- Attention over a quantized latent cache, written plainly, and the one equation the certificate rests on.

   The arguments are the queries in the latent space `a0` and their rotary part `a1`, the cached codes `a2` with one
   scale per token `a3`, and the cached rotary keys `a4`. `attention` is softmax attention of them. The equation says
   that the quotient of the two sums the kernel ends with (base two, scores times `1 / √192 · 1 / log 2`) is
   `attention` (base `e`, scores times `1 / √192`), whatever the arguments are. -/
module

public import proofs.«01_k».proof.Proof.SoftmaxMath
public import Idealize.ShloMosaic.Lib.Pointwise

@[expose] public section

noncomputable section

namespace Cert.Attention

open Idealize.ShloMosaic Cert.SoftmaxMath

variable (a0 : Vec Ideal ⟨3, ![4, 1, 65536]⟩ .bf16) (a1 : Vec Ideal ⟨4, ![4, 1, 128, 64]⟩ .bf16)
  (a2 : Vec Ideal ⟨3, ![4, 65536, 512]⟩ .fp8e4m3) (a3 : Vec Ideal ⟨2, ![4, 65536]⟩ .f32)
  (a4 : Vec Ideal ⟨3, ![4, 65536, 64]⟩ .bf16)

/-- Component `k` of head `h`'s latent query, in batch `b`: the queries of a batch lie head after head. -/
def query (b : Fin 4) (h : Fin 128) (k : Fin 512) : EReal := a0 (ix3 b 0 ⟨512 * h.val + k.val, by omega⟩)

/-- The product of a head's query and a token's key, before any constant factor: the latent part, dequantized by the
    token's scale, plus the rotary part. -/
def product (b : Fin 4) (h : Fin 128) (t : Fin 65536) : EReal :=
  (∑ k : Fin 512, query a0 b h k * a2 (ix3 b t k)) * a3 (ix2 b t) + ∑ r : Fin 64, a1 (ix4 b 0 h r) * a4 (ix3 b t r)

/-- The score of a token: the product times `1 / √192`. -/
def logit (b : Fin 4) (h : Fin 128) (t : Fin 65536) : EReal :=
  product a0 a1 a2 a3 a4 b h t * (((Real.sqrt 192)⁻¹ : ℝ) : EReal)

/-- The score in base two: the product times `1 / √192 · 1 / log 2`. -/
def logit2 (b : Fin 4) (h : Fin 128) (t : Fin 65536) : EReal :=
  product a0 a1 a2 a3 a4 b h t * (((Real.sqrt 192)⁻¹ * (Real.log 2)⁻¹ : ℝ) : EReal)

/-- A token's value: its code times its scale. -/
def value (b : Fin 4) (d : Fin 512) (t : Fin 65536) : EReal := a3 (ix2 b t) * a2 (ix3 b t d)

/-- SOFTMAX ATTENTION: the tokens' values weighted by `e` to their score less the largest, over the sum of weights. -/
def attention (b : Fin 4) (h : Fin 128) (d : Fin 512) : EReal :=
  Ideal.div
    (∑ t, Ideal.exp (logit a0 a1 a2 a3 a4 b h t - Finset.univ.sup (logit a0 a1 a2 a3 a4 b h)) * value a2 a3 b d t)
    (∑ t, Ideal.exp (logit a0 a1 a2 a3 a4 b h t - Finset.univ.sup (logit a0 a1 a2 a3 a4 b h)))

/-- The base-two score is the score times `1 / log 2`. -/
theorem logit2_eq (b : Fin 4) (h : Fin 128) :
    logit2 a0 a1 a2 a3 a4 b h = fun t => logit a0 a1 a2 a3 a4 b h t * (((Real.log 2)⁻¹ : ℝ) : EReal) := by
  funext t
  unfold logit2 logit
  rw [EReal.coe_mul, mul_assoc]

/-- THE EQUATION: the two base-two sums over all tokens have attention as their quotient. -/
theorem quotient_eq (b : Fin 4) (h : Fin 128) (d : Fin 512) :
    Ideal.div (weighted (logit2 a0 a1 a2 a3 a4 b h) (value a2 a3 b d) Finset.univ)
        (weighted (logit2 a0 a1 a2 a3 a4 b h) (fun _ => 1) Finset.univ)
      = attention a0 a1 a2 a3 a4 b h d := by
  rw [logit2_eq, weighted_eq_exp, weighted_eq_exp]
  simp only [mul_one]
  rfl

end Cert.Attention

end
-- ==== Proof.Inputs.lean ====
/- What each grid point of the kernel reads, in terms of the arguments.

   Point `t` handles block `t % 64` of batch `t / 64`: its query blocks are the batch's, its code, scale and key blocks
   are the block's 1024 tokens. -/
module

public import proofs.«01_k».proof.Proof.Payload
public import proofs.«01_k».proof.Proof.Attention

@[expose] public section

set_option maxRecDepth 16384

noncomputable section

namespace Cert.KernelIdeal.Inputs

open Cert.KernelIdeal Cert.KernelIdeal.Gen Idealize.ShloMosaic Idealize.ShloMosaic.TcCoe Idealize.SL.Sem
open Cert.SoftmaxMath

variable (m : (ℓ : Loc nD τ sig) → Buf (Elt Ideal) ℓ) (c : Dev nD)

/-- The batch of a grid point. -/
def batch (t : Fin cfg0.N) : Fin 4 := ⟨t.val / 64, by have := lt_of_lt_of_eq t.isLt (show cfg0.N = 256 from N_0); omega⟩

/-- The block, within its batch, of a grid point. -/
def blockOf (t : Fin cfg0.N) : Fin 64 := ⟨t.val % 64, by omega⟩

/-- The block index of each input window at each point. -/
theorem idx : ∀ t : Fin cfg0.N,
    win0_0.index t = ![t.val / 64, 0, 0] ∧ win0_1.index t = ![t.val / 64, 0, 0]
    ∧ win0_2.index t = ![t.val / 64, t.val % 64, 0] ∧ win0_3.index t = ![t.val / 64, 0, t.val % 64]
    ∧ win0_4.index t = ![t.val / 64, t.val % 64, 0] :=
  (by decide +kernel : ∀ t : Fin grid0.N, _)

/-- Argument 0, the queries. -/
abbrev a0 : Vec Ideal ⟨3, ![4, 1, 65536]⟩ .bf16 := m ((c : Thread nD τ).loc main_arg0)
/-- Argument 1, the rotary queries. -/
abbrev a1 : Vec Ideal ⟨4, ![4, 1, 128, 64]⟩ .bf16 := m ((c : Thread nD τ).loc main_arg1)
/-- Argument 2, the cached codes. -/
abbrev a2 : Vec Ideal ⟨3, ![4, 65536, 512]⟩ .fp8e4m3 := m ((c : Thread nD τ).loc main_arg2)
/-- Argument 3, the tokens' scales. -/
abbrev a3 : Vec Ideal ⟨2, ![4, 65536]⟩ .f32 := m ((c : Thread nD τ).loc main_arg3)
/-- Argument 4, the cached rotary keys. -/
abbrev a4 : Vec Ideal ⟨3, ![4, 65536, 64]⟩ .bf16 := m ((c : Thread nD τ).loc main_arg4)

/-- The batch's queries, head by head. -/
theorem iblk0 (t : Fin cfg0.N) (h : Fin 128) (k : Fin 512) :
    iblk m c 0 t (ix3 0 h k) = Attention.query (a0 m c) (batch t) h k := by
  unfold Attention.query batch
  blk_ext! [iblk, V, idx t]

/-- The batch's rotary queries. -/
theorem iblk1 (t : Fin cfg0.N) (h : Fin 128) (r : Fin 64) :
    iblk m c 1 t (ix3 0 h r) = a1 m c (ix4 (batch t) 0 h r) := by
  unfold batch
  blk_ext! [iblk, V, idx t]

/-- The codes of the block's tokens. -/
theorem iblk2 (t : Fin cfg0.N) (j : Fin 1024) (d : Fin 512) :
    iblk m c 2 t (ix3 0 j d) = a2 m c (ix3 (batch t) (tok (blockOf t) j) d) := by
  unfold batch tok blockOf
  blk_ext! [iblk, V, idx t]

/-- The scales of the block's tokens. -/
theorem iblk3 (t : Fin cfg0.N) (j : Fin 1024) :
    iblk m c 3 t (ix3 0 0 j) = a3 m c (ix2 (batch t) (tok (blockOf t) j)) := by
  unfold batch tok blockOf
  blk_ext! [iblk, V, idx t]

/-- The rotary keys of the block's tokens. -/
theorem iblk4 (t : Fin cfg0.N) (j : Fin 1024) (r : Fin 64) :
    iblk m c 4 t (ix3 0 j r) = a4 m c (ix3 (batch t) (tok (blockOf t) j) r) := by
  unfold batch tok blockOf
  blk_ext! [iblk, V, idx t]

end Cert.KernelIdeal.Inputs

end
-- ==== Proof.Sweep.lean ====
/- What the kernel's array holds after the run: softmax attention of the arguments.

   After each grid point the three carried buffers hold the largest score, the sum of weights and the weighted values
   over all tokens of the batch read so far (`holds`, by induction on the point). At a batch's last block that is every
   token, and the block written back is the quotient. -/
module

public import proofs.«01_k».proof.Proof.Inputs

@[expose] public section

set_option maxRecDepth 16384

noncomputable section

namespace Cert.KernelIdeal.Sweep

open Cert.KernelIdeal Cert.KernelIdeal.Gen Cert.KernelIdeal.Block Cert.KernelIdeal.Payload Cert.KernelIdeal.Inputs
open Idealize.ShloMosaic Idealize.ShloMosaic.TcCoe Idealize.SL.Sem Cert.SoftmaxMath

variable (m : (ℓ : Loc nD τ sig) → Buf (Elt Ideal) ℓ) (c : Dev nD)

/-- The base-two scores of head `h` in batch `b`, of the arguments in memory. -/
abbrev u (b : Fin 4) (h : Fin 128) : Fin 65536 → EReal :=
  Attention.logit2 (a0 m c) (a1 m c) (a2 m c) (a3 m c) (a4 m c) b h

/-- Component `d` of the tokens' values in batch `b`, of the arguments in memory. -/
abbrev v (b : Fin 4) (d : Fin 512) : Fin 65536 → EReal := Attention.value (a2 m c) (a3 m c) b d

/-- The block's scores are the scores of its tokens. -/
theorem score_eq (t : Fin cfg0.N) (h : Fin 128) (j : Fin 1024) :
    score (iblk m c 0 t) (iblk m c 1 t) (iblk m c 2 t) (iblk m c 3 t) (iblk m c 4 t) h j
      = u m c (batch t) h (tok (blockOf t) j) := by
  unfold score
  simp only [iblk0, iblk1, iblk2, iblk3, iblk4]
  rfl

/-- The three carried buffers hold, of batch `b`, what the tokens before block `n` give. -/
structure Holds (b : Fin 4) (n : ℕ) (y0 y1 : Vec Ideal S128x1 .f32) (y2 : Vec Ideal S128x512 .f32) : Prop where
  /-- the largest score, -/
  max (h : Fin 128) : y0 (ix2 h 0) = (before n).sup (u m c b h)
  /-- the sum of weights -/
  sum (h : Fin 128) : y1 (ix2 h 0) = weighted (u m c b h) (fun _ => 1) (before n)
  /-- and the weighted values. -/
  acc (h : Fin 128) (d : Fin 512) : y2 (ix2 h d) = weighted (u m c b h) (v m c b d) (before n)

/-- What a batch starts from is what no token gives. -/
theorem holds_init (b : Fin 4) : Holds m c b 0 (k0_pay5 (F := Ideal)) (k0_pay6 (F := Ideal)) (k0_pay7 (F := Ideal)) where
  max h := by rw [initM_apply, before_zero, Finset.sup_empty]
  sum h := by rw [initL_apply, before_zero, weighted_empty]
  acc h d := by rw [initAcc_apply, before_zero, weighted_empty]

/-- One block takes the buffers from the tokens before it to the tokens up to and including it. -/
theorem holds_step (t : Fin cfg0.N) {y0 y1 : Vec Ideal S128x1 .f32} {y2 : Vec Ideal S128x512 .f32}
    (H : Holds m c (batch t) (blockOf t).val y0 y1 y2) :
    Holds m c (batch t) ((blockOf t).val + 1)
      (stepM (iblk m c 0 t) (iblk m c 1 t) (iblk m c 2 t) (iblk m c 3 t) (iblk m c 4 t) y0)
      (stepL (iblk m c 0 t) (iblk m c 1 t) (iblk m c 2 t) (iblk m c 3 t) (iblk m c 4 t) y0 y1)
      (stepAcc (iblk m c 0 t) (iblk m c 1 t) (iblk m c 2 t) (iblk m c 3 t) (iblk m c 4 t) y0 y2) := by
  have hm : ∀ h, stepM (iblk m c 0 t) (iblk m c 1 t) (iblk m c 2 t) (iblk m c 3 t) (iblk m c 4 t) y0 (ix2 h 0)
      = (before ((blockOf t).val + 1)).sup (u m c (batch t) h) := fun h => by
    rw [stepM_apply, sup_step, H.max]
    simp only [score_eq]
  refine ⟨hm, fun h => ?_, fun h d => ?_⟩
  · rw [stepL_apply, hm, H.max, H.sum, weighted_step]
    simp only [score_eq, mul_one]
  · rw [stepAcc_apply, hm, H.max, H.acc, weighted_step]
    simp only [score_eq, iblk2, iblk3]
    rfl

/-- AFTER EVERY GRID POINT the carried buffers hold what the batch's tokens read so far give. -/
theorem holds : ∀ (n : ℕ) (hn : n < cfg0.N),
    Holds m c (batch ⟨n, hn⟩) ((blockOf ⟨n, hn⟩).val + 1)
      (outsAt0 m c n hn).2.1 (outsAt0 m c n hn).2.2.1 (outsAt0 m c n hn).2.2.2
  | n, hn => by
    by_cases h0 : n % 64 = 0
    · have h1 : ¬n % 64 = 63 := by omega
      rw [outsAt0_A m c ⟨n, hn⟩ h0 h1]
      dsimp only
      rw [m_A, l_A, acc_A]
      refine holds_step m c ⟨n, hn⟩ ?_
      have e : (blockOf ⟨n, hn⟩).val = 0 := h0
      rw [e]
      exact holds_init m c _
    · have hp : n - 1 < cfg0.N := Nat.lt_of_le_of_lt (Nat.sub_le _ _) hn
      have H := holds (n - 1) hp
      have eb : batch ⟨n - 1, hp⟩ = batch ⟨n, hn⟩ := Fin.ext (by show (n - 1) / 64 = n / 64; omega)
      have ek : (blockOf ⟨n - 1, hp⟩).val + 1 = (blockOf ⟨n, hn⟩).val := by show (n - 1) % 64 + 1 = n % 64; omega
      rw [eb, ek] at H
      have H' := holds_step m c ⟨n, hn⟩ H
      by_cases h1 : n % 64 = 63
      · rw [outsAt0_C m c ⟨n, hn⟩ h0 h1]
        dsimp only
        rw [m_C, l_C, acc_C]
        exact H'
      · rw [outsAt0_B m c ⟨n, hn⟩ h0 h1]
        dsimp only
        rw [m_B, l_B, acc_B]
        exact H'
termination_by n => n
decreasing_by omega

/-- AT A BATCH'S LAST BLOCK the block written back is the batch's attention. -/
theorem out_eq (t : Fin cfg0.N) (h1 : t.val % 64 = 63) (h : Fin 128) (d : Fin 512) :
    (outsAt0 m c t.val t.isLt).1 (ix3 0 h d)
      = Attention.attention (a0 m c) (a1 m c) (a2 m c) (a3 m c) (a4 m c) (batch t) h d := by
  have h0 : ¬t.val % 64 = 0 := by omega
  have H := holds m c t.val t.isLt
  rw [outsAt0_C m c t h0 h1] at H ⊢
  dsimp only at H ⊢
  rw [m_C, l_C, acc_C] at H
  rw [out_C, quotient_apply, H.sum, H.acc]
  have e : (blockOf t).val + 1 = 64 := by show t.val % 64 + 1 = 64; omega
  rw [e, before_all]
  exact Attention.quotient_eq _ _ _ _ _ _ _ _

/-- THE RESULT ARRAY holds attention at every index. -/
theorem G5_eq (i : S4x128x512.Idx) :
    Value.G5 m c i = Attention.attention (a0 m c) (a1 m c) (a2 m c) (a3 m c) (a4 m c) (i 0) (i 1) (i 2) := by
  obtain ⟨b, h, d, rfl⟩ : ∃ (b : Fin 4) (h : Fin 128) (d : Fin 512), i = ix3 b h d := ⟨i 0, i 1, i 2, eq_ix3 i⟩
  have hp : Value.pt5Of (ix3 b h d) = 64 * b.val + 63 := by
    show 64 * (1 * (b.val / 1 - 0) + 1 * (h.val / 128 - 0) + 1 * (d.val / 512 - 0)) + 63 = _
    omega
  have hN : Value.pt5Of (ix3 b h d) < cfg0.N := by rw [hp, show cfg0.N = 256 from N_0]; omega
  have hl : Value.loc5Of (ix3 b h d) = ix3 0 h d := by
    funext a
    refine Fin.ext ?_
    match a with
    | ⟨0, _⟩ => show b.val % 1 = 0; omega
    | ⟨1, _⟩ => show h.val % 128 = h.val; omega
    | ⟨2, _⟩ => show d.val % 512 = d.val; omega
  unfold Value.G5
  rw [dif_pos hN, ← Value.outsAt0_sweep m c _ hN, hl]
  have := out_eq m c ⟨_, hN⟩ (by show Value.pt5Of (ix3 b h d) % 64 = 63; omega) h d
  rw [this]
  congr 1
  exact Fin.ext (by show Value.pt5Of (ix3 b h d) / 64 = b.val; omega)

end Cert.KernelIdeal.Sweep

end
-- ==== Proof.RefValue.lean ====
/- What the reference computes: its result array holds softmax attention of its arguments. -/
module

public import proofs.«01_k».proof.Proof.Attention
public import proofs.«01_k».proof.Proof.Gen.ReferenceIdeal.Value
public import Idealize.ShloMosaic.Lib.Pipeline.ValueKit

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Cert.SoftmaxMath

/-- The reference's score of head `h` at token `t` in batch `b`, of the blocks its body loads. -/
def score (v0 : Vec Ideal S4x128x512 .bf16) (v2 : Vec Ideal S4x65536x512 .fp8e4m3) (v4 : Vec Ideal S4x65536 .f32)
    (v7 : Vec Ideal S4x128x64 .bf16) (v9 : Vec Ideal S4x65536x64 .bf16) (b : Fin 4) (h : Fin 128) (t : Fin 65536) :
    EReal :=
  ((∑ k : Fin 512, v0 (ix3 b h k) * v2 (ix3 b t k)) * v4 (ix2 b t) + ∑ r : Fin 64, v7 (ix3 b h r) * v9 (ix3 b t r))
    * (((Real.sqrt 192)⁻¹ : ℝ) : EReal)

/-- The body's stored value at an index: the softmax of the scores, applied to the dequantized codes. -/
theorem pay_apply (v0 : Vec Ideal S4x128x512 .bf16) (v2 : Vec Ideal S4x65536x512 .fp8e4m3)
    (v4 : Vec Ideal S4x65536 .f32) (v7 : Vec Ideal S4x128x64 .bf16) (v9 : Vec Ideal S4x65536x64 .bf16)
    (b : Fin 4) (h : Fin 128) (d : Fin 512) :
    k0_pay1 (F := Ideal) v0 v2 v4 v7 v9 (ix3 b h d)
      = Ideal.div
          (∑ t, Ideal.exp (score v0 v2 v4 v7 v9 b h t - Finset.univ.sup (score v0 v2 v4 v7 v9 b h))
            * (v4 (ix2 b t) * v2 (ix3 b t d)))
          (∑ t, Ideal.exp (score v0 v2 v4 v7 v9 b h t - Finset.univ.sup (score v0 v2 v4 v7 v9 b h))) := by
  pointwise [k0_pay1]
  rw [ofBits_neg_inf]
  refine congrArg₂ Ideal.div (Finset.sum_congr rfl fun t _ => ?_) rfl
  exact mul_assoc _ _ _

variable (m : (ℓ : Loc nD τ sig) → Buf (Elt Ideal) ℓ) (c : Dev nD)

/-- Argument 0, the queries. -/
abbrev a0 : Vec Ideal ⟨3, ![4, 1, 65536]⟩ .bf16 := m ((c : Thread nD τ).loc main_arg0)
/-- Argument 1, the rotary queries. -/
abbrev a1 : Vec Ideal ⟨4, ![4, 1, 128, 64]⟩ .bf16 := m ((c : Thread nD τ).loc main_arg1)
/-- Argument 2, the cached codes. -/
abbrev a2 : Vec Ideal ⟨3, ![4, 65536, 512]⟩ .fp8e4m3 := m ((c : Thread nD τ).loc main_arg2)
/-- Argument 3, the tokens' scales. -/
abbrev a3 : Vec Ideal ⟨2, ![4, 65536]⟩ .f32 := m ((c : Thread nD τ).loc main_arg3)
/-- Argument 4, the cached rotary keys. -/
abbrev a4 : Vec Ideal ⟨3, ![4, 65536, 64]⟩ .bf16 := m ((c : Thread nD τ).loc main_arg4)

/-- Every window's one block starts at the origin of its array. -/
theorem idx : ∀ t : Fin cfg0.N,
    win0_0.index t = ![0, 0, 0] ∧ win0_1.index t = ![0, 0, 0] ∧ win0_2.index t = ![0, 0, 0]
    ∧ win0_3.index t = ![0, 0] ∧ win0_4.index t = ![0, 0, 0] ∧ win0_5.index t = ![0, 0, 0] :=
  (by decide +kernel : ∀ t : Fin grid0.N, _)

/-- The body loads the queries, head by head, -/
theorem iblk0 (t : Fin cfg0.N) (b : Fin 4) (h : Fin 128) (k : Fin 512) :
    iblk m c 0 t (ix3 b h k) = Attention.query (a0 m c) b h k := by
  unfold Attention.query
  blk_ext! [iblk, V, idx t]

/-- the rotary queries, -/
theorem iblk1 (t : Fin cfg0.N) (b : Fin 4) (h : Fin 128) (r : Fin 64) :
    iblk m c 1 t (ix3 b h r) = a1 m c (ix4 b 0 h r) := by
  blk_ext! [iblk, V, idx t]

/-- the codes, -/
theorem iblk2 (t : Fin cfg0.N) (b : Fin 4) (j : Fin 65536) (d : Fin 512) :
    iblk m c 2 t (ix3 b j d) = a2 m c (ix3 b j d) := by
  blk_ext! [iblk, V, idx t]

/-- the scales -/
theorem iblk3 (t : Fin cfg0.N) (b : Fin 4) (j : Fin 65536) :
    iblk m c 3 t (ix2 b j) = a3 m c (ix2 b j) := by
  blk_ext! [iblk, V, idx t]

/-- and the rotary keys. -/
theorem iblk4 (t : Fin cfg0.N) (b : Fin 4) (j : Fin 65536) (r : Fin 64) :
    iblk m c 4 t (ix3 b j r) = a4 m c (ix3 b j r) := by
  blk_ext! [iblk, V, idx t]

/-- The stored block, of the blocks the one grid point loads, is attention of the arguments. -/
theorem pay_eq (t : Fin cfg0.N) (b : Fin 4) (h : Fin 128) (d : Fin 512) :
    k0_pay1 (F := Ideal) (iblk m c 0 t) (iblk m c 2 t) (iblk m c 3 t) (iblk m c 1 t) (iblk m c 4 t) (ix3 b h d)
      = Attention.attention (a0 m c) (a1 m c) (a2 m c) (a3 m c) (a4 m c) b h d := by
  rw [pay_apply]
  unfold score
  simp only [iblk0, iblk1, iblk2, iblk3, iblk4]
  rfl

/-- Attention of the arguments, as contents of the result array. -/
def result : Buf (Elt Ideal) ((c : Thread nD τ).loc main_v2) := fun i : S4x128x512.Idx =>
  Attention.attention (a0 m c) (a1 m c) (a2 m c) (a3 m c) (a4 m c) (i 0) (i 1) (i 2)

/-- THE RESULT ARRAY after the run holds attention of the arguments. -/
theorem final : (dats m 0 c).arrAt 5 cfg0.N = result m c := by
  refine (dats m 0 c).arrAt_eq_of_covers 5 _ (by decide +kernel) fun t hf y => ?_
  blk_simp
  rw [after0_5]
  frame_out
  have e : (((View.whole main_v2).slice (win0_5.rect t)).emb y : S4x128x512.Idx) = y := by
    funext a
    refine Fin.ext ?_
    have h0 : win0_5.index t a = 0 := by
      rw [(idx t).2.2.2.2.2]
      exact match a with | ⟨0, _⟩ => rfl | ⟨1, _⟩ => rfl | ⟨2, _⟩ => rfl
    have h : (((cfg0.win 5).rect t).emb y a).val = win0_5.index t a * win0_5.size a + (y a).val :=
      Pipeline.Window.rect_emb_val (cfg0.win 5) t y a
    rw [h0, Nat.zero_mul, Nat.zero_add] at h
    exact h
  obtain ⟨b, h, d, rfl⟩ : ∃ (b : Fin 4) (h : Fin 128) (d : Fin 512), y = ix3 b h d := ⟨y 0, y 1, y 2, eq_ix3 y⟩
  rw [e]
  exact pay_eq m c t b h d

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Skeleton
public import proofs.«01_k».proof.Proof.Gen.Reference.Launch
public import proofs.«01_k».proof.Proof.Gen.Reference.Points
public import proofs.«01_k».proof.Proof.Gen.Reference.Frame
public import proofs.«01_k».proof.Proof.Gen.KernelIdeal.Value
public import proofs.«01_k».proof.Proof.Gen.ReferenceIdeal.Value
public import proofs.«01_k».proof.Proof.Sweep
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- The kernel runs to its end without a fault, leaves its arguments as they were and every counter at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference's idealization, -/
theorem frame_referenceIdeal : Cert.quiescent_ReferenceIdeal := fun m ρ _ => Cert.ReferenceIdeal.Gen.frame m ρ

/-- and the reference. -/
theorem frame_reference : Cert.quiescent_Reference := fun m ρ _ => Cert.Reference.Gen.frame m ρ

/-- The kernel's one named constant stands for its bit pattern as the rule asks. -/
theorem preserves_kernel : Cert.preserves_Kernel_KernelIdeal :=
  IdealRules.named_const.statement Cert.KernelIdeal.κ "exp2_scale" .f32 0x3DD53B95#32
    (((Real.sqrt 192)⁻¹ * (Real.log 2)⁻¹ : ℝ) : EReal) rfl

/-- So does the reference's. -/
theorem preserves_reference : Cert.preserves_Reference_ReferenceIdeal :=
  IdealRules.named_const.statement Cert.ReferenceIdeal.κ "sm_scale" .f32 0x3D93CD3A#32
    (((Real.sqrt 192)⁻¹ : ℝ) : EReal) rfl

/-- Of arguments that agree, the array the kernel's run ends with is the one the reference's does: both hold softmax
    attention at every index. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.RefValue.a0 m' c = Cert.KernelIdeal.Inputs.a0 m c)
    (h1 : Cert.ReferenceIdeal.RefValue.a1 m' c = Cert.KernelIdeal.Inputs.a1 m c)
    (h2 : Cert.ReferenceIdeal.RefValue.a2 m' c = Cert.KernelIdeal.Inputs.a2 m c)
    (h3 : Cert.ReferenceIdeal.RefValue.a3 m' c = Cert.KernelIdeal.Inputs.a3 m c)
    (h4 : Cert.ReferenceIdeal.RefValue.a4 m' c = Cert.KernelIdeal.Inputs.a4 m c) :
    Cert.ReferenceIdeal.RefValue.result m' c = Cert.KernelIdeal.Value.G5 m c := by
  funext i
  rw [Cert.KernelIdeal.Sweep.G5_eq, Cert.ReferenceIdeal.RefValue.result, h0, h1, h2, h3, h4]

/-- THE VALUE CLAIM: from arguments that agree, whatever they are, the kernel and the reference end with equal results. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run_blocks (F := Ideal) m' ρ')
  obtain ⟨h0, h1, h2, h3, h4⟩ := hagree c
  exact (Cert.ReferenceIdeal.RefValue.final m' c).trans (result_eq m m' c h0 h1 h2 h3 h4)

theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, preserves_kernel, preserves_reference,
    algebraic⟩

end Cert.Proof

end
